-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x3072x7168 : Shape := ⟨3, ![3, 3072, 7168]⟩
abbrev S7168 : Shape := ⟨1, ![7168]⟩
abbrev S2304x7168 : Shape := ⟨2, ![2304, 7168]⟩
abbrev S2304 : Shape := ⟨1, ![2304]⟩
abbrev S3x3072x2304 : Shape := ⟨3, ![3, 3072, 2304]⟩
abbrev S9216x7168 : Shape := ⟨2, ![9216, 7168]⟩
abbrev S1x7168 : Shape := ⟨2, ![1, 7168]⟩
abbrev S1x2304 : Shape := ⟨2, ![1, 2304]⟩
abbrev S9216x2304 : Shape := ⟨2, ![9216, 2304]⟩
abbrev S9216x1 : Shape := ⟨2, ![9216, 1]⟩
abbrev S256x7168 : Shape := ⟨2, ![256, 7168]⟩
abbrev S256x2304 : Shape := ⟨2, ![256, 2304]⟩
abbrev S256x1 : Shape := ⟨2, ![256, 1]⟩
abbrev S256 : Shape := ⟨1, ![256]⟩
abbrev S256x1024 : Shape := ⟨2, ![256, 1024]⟩
abbrev S2304x1024 : Shape := ⟨2, ![2304, 1024]⟩

abbrev nBuf : Space → Nat
  | .hbm => 12
  | .vmem => 14
  | .smem => 0
  | _ => 0

abbrev bufTy : (tb : Table) → Fin (tcTables nBuf tb) → BufTy
  | .hbm, ⟨0, _⟩ => ⟨S3x3072x7168, .bf16⟩
  | .hbm, ⟨1, _⟩ => ⟨S7168, .f32⟩
  | .hbm, ⟨2, _⟩ => ⟨S2304x7168, .i8⟩
  | .hbm, ⟨3, _⟩ => ⟨S2304, .f32⟩
  | .hbm, ⟨4, _⟩ => ⟨S3x3072x2304, .bf16⟩
  | .hbm, ⟨5, _⟩ => ⟨S9216x7168, .bf16⟩
  | .hbm, ⟨6, _⟩ => ⟨S1x7168, .f32⟩
  | .hbm, ⟨7, _⟩ => ⟨S1x2304, .f32⟩
  | .hbm, ⟨8, _⟩ => ⟨S9216x2304, .bf16⟩
  | .hbm, ⟨9, _⟩ => ⟨S9216x2304, .bf16⟩
  | .hbm, ⟨10, _⟩ => ⟨S9216x7168, .i8⟩
  | .hbm, ⟨11, _⟩ => ⟨S9216x1, .f32⟩
  | .local _ .vmem, ⟨0, _⟩ => ⟨S256x7168, .bf16⟩
  | .local _ .vmem, ⟨1, _⟩ => ⟨S256x7168, .bf16⟩
  | .local _ .vmem, ⟨2, _⟩ => ⟨S1x7168, .f32⟩
  | .local _ .vmem, ⟨3, _⟩ => ⟨S2304x7168, .i8⟩
  | .local _ .vmem, ⟨4, _⟩ => ⟨S1x2304, .f32⟩
  | .local _ .vmem, ⟨5, _⟩ => ⟨S256x2304, .bf16⟩
  | .local _ .vmem, ⟨6, _⟩ => ⟨S256x2304, .bf16⟩
  | .local _ .vmem, ⟨7, _⟩ => ⟨S256x2304, .bf16⟩
  | .local _ .vmem, ⟨8, _⟩ => ⟨S256x2304, .bf16⟩
  | .local _ .vmem, ⟨9, _⟩ => ⟨S256x7168, .i8⟩
  | .local _ .vmem, ⟨10, _⟩ => ⟨S256x7168, .i8⟩
  | .local _ .vmem, ⟨11, _⟩ => ⟨S256x1, .f32⟩
  | .local _ .vmem, ⟨12, _⟩ => ⟨S256x1, .f32⟩
  | .local _ .vmem, ⟨13, _⟩ => ⟨S256x2304, .i32⟩
  | _, _ => ⟨S3x3072x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304x7168 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2304 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2304 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x7168 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S3x3072x7168 : Shape := ⟨3, ![3, 3072, 7168]⟩
abbrev S7168 : Shape := ⟨1, ![7168]⟩
abbrev S2304x7168 : Shape := ⟨2, ![2304, 7168]⟩
abbrev S2304 : Shape := ⟨1, ![2304]⟩
abbrev S3x3072x2304 : Shape := ⟨3, ![3, 3072, 2304]⟩
abbrev S1x1x7168 : Shape := ⟨3, ![1, 1, 7168]⟩
abbrev S_ : Shape := ⟨0, ![]⟩
abbrev S3x3072 : Shape := ⟨2, ![3, 3072]⟩
abbrev S3x3072x1 : Shape := ⟨3, ![3, 3072, 1]⟩
abbrev S3x3072x1x7168 : Shape := ⟨4, ![3, 3072, 1, 7168]⟩
abbrev S1x1x2304x7168 : Shape := ⟨4, ![1, 1, 2304, 7168]⟩
abbrev S3x3072x2304x7168 : Shape := ⟨4, ![3, 3072, 2304, 7168]⟩
abbrev S1x1x2304 : Shape := ⟨3, ![1, 1, 2304]⟩
abbrev S9216x2304 : Shape := ⟨2, ![9216, 2304]⟩
abbrev S9216x7168 : Shape := ⟨2, ![9216, 7168]⟩
abbrev S9216x1 : Shape := ⟨2, ![9216, 1]⟩

abbrev nBuf : Space → Nat
  | .hbm => 57
  | .vmem => 0
  | .smem => 0
  | _ => 0

abbrev bufTy : (tb : Table) → Fin (tcTables nBuf tb) → BufTy
  | .hbm, ⟨0, _⟩ => ⟨S3x3072x7168, .bf16⟩
  | .hbm, ⟨1, _⟩ => ⟨S7168, .f32⟩
  | .hbm, ⟨2, _⟩ => ⟨S2304x7168, .i8⟩
  | .hbm, ⟨3, _⟩ => ⟨S2304, .f32⟩
  | .hbm, ⟨4, _⟩ => ⟨S3x3072x2304, .bf16⟩
  | .hbm, ⟨5, _⟩ => ⟨S3x3072x7168, .f32⟩
  | .hbm, ⟨6, _⟩ => ⟨S1x1x7168, .f32⟩
  | .hbm, ⟨7, _⟩ => ⟨S3x3072x7168, .f32⟩
  | .hbm, ⟨8, _⟩ => ⟨S3x3072x7168, .f32⟩
  | .hbm, ⟨9, _⟩ => ⟨S3x3072x7168, .f32⟩
  | .hbm, ⟨10, _⟩ => ⟨S_, .f32⟩
  | .hbm, ⟨11, _⟩ => ⟨S3x3072, .f32⟩
  | .hbm, ⟨12, _⟩ => ⟨S3x3072x1, .f32⟩
  | .hbm, ⟨13, _⟩ => ⟨S_, .f32⟩
  | .hbm, ⟨14, _⟩ => ⟨S3x3072x1, .f32⟩
  | .hbm, ⟨15, _⟩ => ⟨S3x3072x1, .i1⟩
  | .hbm, ⟨16, _⟩ => ⟨S_, .f32⟩
  | .hbm, ⟨17, _⟩ => ⟨S3x3072x1, .f32⟩
  | .hbm, ⟨18, _⟩ => ⟨S3x3072x1, .f32⟩
  | .hbm, ⟨19, _⟩ => ⟨S_, .f32⟩
  | .hbm, ⟨20, _⟩ => ⟨S_, .f32⟩
  | .hbm, ⟨21, _⟩ => ⟨S3x3072x1, .f32⟩
  | .hbm, ⟨22, _⟩ => ⟨S3x3072x1, .f32⟩
  | .hbm, ⟨23, _⟩ => ⟨S3x3072x7168, .f32⟩
  | .hbm, ⟨24, _⟩ => ⟨S3x3072x7168, .f32⟩
  | .hbm, ⟨25, _⟩ => ⟨S3x3072x7168, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S3x3072x7168, .f32⟩
  | .hbm, ⟨30, _⟩ => ⟨S3x3072x7168, .f32⟩
  | .hbm, ⟨31, _⟩ => ⟨S_, .f32⟩
  | .hbm, ⟨32, _⟩ => ⟨S3x3072x7168, .f32⟩
  | .hbm, ⟨33, _⟩ => ⟨S3x3072x7168, .f32⟩
  | .hbm, ⟨34, _⟩ => ⟨S3x3072x7168, .i32⟩
  | .hbm, ⟨35, _⟩ => ⟨S3x3072x7168, .i8⟩
  | .hbm, ⟨36, _⟩ => ⟨S3x3072x7168, .i32⟩
  | .hbm, ⟨37, _⟩ => ⟨S3x3072x1x7168, .i32⟩
  | .hbm, ⟨38, _⟩ => ⟨S2304x7168, .i32⟩
  | .hbm, ⟨39, _⟩ => ⟨S1x1x2304x7168, .i32⟩
  | .hbm, ⟨40, _⟩ => ⟨S3x3072x2304x7168, .i32⟩
  | .hbm, ⟨41, _⟩ => ⟨S3x3072x2304x7168, .i32⟩
  | .hbm, ⟨42, _⟩ => ⟨S3x3072x2304x7168, .i32⟩
  | .hbm, ⟨43, _⟩ => ⟨S_, .i32⟩
  | .hbm, ⟨44, _⟩ => ⟨S3x3072x2304, .i32⟩
  | .hbm, ⟨45, _⟩ => ⟨S3x3072x2304, .f32⟩
  | .hbm, ⟨46, _⟩ => ⟨S3x3072x2304, .f32⟩
  | .hbm, ⟨47, _⟩ => ⟨S3x3072x2304, .f32⟩
  | .hbm, ⟨48, _⟩ => ⟨S1x1x2304, .f32⟩
  | .hbm, ⟨49, _⟩ => ⟨S3x3072x2304, .f32⟩
  | .hbm, ⟨50, _⟩ => ⟨S3x3072x2304, .f32⟩
  | .hbm, ⟨51, _⟩ => ⟨S3x3072x2304, .f32⟩
  | .hbm, ⟨52, _⟩ => ⟨S3x3072x2304, .f32⟩
  | .hbm, ⟨53, _⟩ => ⟨S3x3072x2304, .bf16⟩
  | .hbm, ⟨54, _⟩ => ⟨S9216x2304, .bf16⟩
  | .hbm, ⟨55, _⟩ => ⟨S9216x7168, .i8⟩
  | .hbm, ⟨56, _⟩ => ⟨S9216x1, .f32⟩
  | _, _ => ⟨S3x3072x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_cst_4 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]
-- ==== Proof.Quant.lean ====
/-
  The two scalar and one-product facts the kernel's integer part rests on. A value clipped to ±127 converts to the same 8-bit
  word whether it is converted to eight bits at once or to 32 bits and truncated, and that word is at most 127 in magnitude.
  So a product of 1024 positions of such words with any 8-bit words is at most 1024·127·128 in magnitude, within what the
  matrix unit sums exactly, and its result is the sum of the sign-extended products as 32-bit words.
-/
module

public import proofs.«01_k».proof.Proof.Gen.KernelIdeal.Value
public import Idealize.ShloMosaic.Lib.IntMxu
public import Idealize.ShloMosaic.Lib.Pointwise
public import Mathlib.Data.BitVec

@[expose] public section

set_option maxRecDepth 16384

noncomputable section

namespace Cert.KernelIdeal.RefValue

open Cert.KernelIdeal Cert.KernelIdeal.Gen
open Idealize.ShloMosaic Idealize.ShloMosaic.TcCoe Idealize.SL.Sem

/-- The upper clipping bound. -/
theorem hi_eq : Ideal.ofBits .f32 0x42FE0000#32 = ((127 : ℝ) : EReal) := by
  simp [Ideal.ofBits, Ideal.ieee, -EReal.coe_mul]; norm_num

/-- The lower clipping bound. -/
theorem lo_eq : Ideal.ofBits .f32 0xC2FE0000#32 = ((-127 : ℝ) : EReal) := by
  simp [Ideal.ofBits, Ideal.ieee, -EReal.coe_mul]; norm_num

/-- A value between -127 and 127 converts to the word of one integer between -127 and 127, at both widths. -/
theorem fptosi_word (e : EReal) :
    ∃ n : Int, -127 ≤ n ∧ n ≤ 127
      ∧ Ideal.fptosi 8 (min ((127 : ℝ) : EReal) (max ((-127 : ℝ) : EReal) e)) = BitVec.ofInt 8 n
      ∧ Ideal.fptosi 32 (min ((127 : ℝ) : EReal) (max ((-127 : ℝ) : EReal) e)) = BitVec.ofInt 32 n := by
  obtain ⟨r, h1, h2, hr⟩ : ∃ r : ℝ, -127 ≤ r ∧ r ≤ 127 ∧ min ((127 : ℝ) : EReal) (max ((-127 : ℝ) : EReal) e) = (r : EReal) := by
    induction e with
    | bot =>
      refine ⟨-127, by norm_num, by norm_num, ?_⟩
      rw [max_eq_left bot_le, min_eq_right (EReal.coe_le_coe_iff.mpr (by norm_num))]
    | top => exact ⟨127, by norm_num, by norm_num, by simp⟩
    | coe x => exact ⟨min 127 (max (-127) x), by simp, by simp, by
      rw [EReal.coe_strictMono.monotone.map_min, EReal.coe_strictMono.monotone.map_max]⟩
  rw [hr]
  have hn : -127 ≤ (if 0 ≤ r then ⌊r⌋ else ⌈r⌉) ∧ (if 0 ≤ r then ⌊r⌋ else ⌈r⌉) ≤ 127 := by
    split
    · exact ⟨Int.le_floor.mpr (by push_cast; exact h1), Int.cast_le (R := ℝ).mp ((Int.floor_le r).trans (by push_cast; exact h2))⟩
    · exact ⟨Int.cast_le (R := ℝ).mp (le_trans (by push_cast; exact h1) (Int.le_ceil r)), Int.ceil_le.mpr (by push_cast; exact h2)⟩
  refine ⟨if 0 ≤ r then ⌊r⌋ else ⌈r⌉, hn.1, hn.2, ?_, ?_⟩
  · unfold Ideal.fptosi
    rw [Ideal.toIntClamped_coe]
    congr 1
    norm_num
    omega
  · unfold Ideal.fptosi
    rw [Ideal.toIntClamped_coe]
    congr 1
    norm_num
    omega

/-- Converting a clipped value to eight bits is converting it to 32 and truncating. -/
theorem fptosi_trunc (e : EReal) :
    Ideal.fptosi 8 (min ((127 : ℝ) : EReal) (max ((-127 : ℝ) : EReal) e))
      = BitVec.setWidth 8 (Ideal.fptosi 32 (min ((127 : ℝ) : EReal) (max ((-127 : ℝ) : EReal) e))) := by
  obtain ⟨n, h1, h2, h8, h32⟩ := fptosi_word e
  rw [h8, h32]
  apply BitVec.eq_of_toInt_eq
  rw [← BitVec.signExtend_eq_setWidth_of_le _ (by decide), BitVec.toInt_signExtend, BitVec.toInt_ofInt, BitVec.toInt_ofInt,
    Int.bmod_eq_of_le (m := 2 ^ 32) (by omega) (by omega)]
  rfl

/-- A clipped value's word is at most 127 in magnitude. -/
theorem fptosi_natAbs (e : EReal) :
    (Ideal.fptosi 8 (min ((127 : ℝ) : EReal) (max ((-127 : ℝ) : EReal) e))).toInt.natAbs ≤ 127 := by
  obtain ⟨n, h1, h2, h8, -⟩ := fptosi_word e
  rw [h8, BitVec.toInt_ofInt, Int.bmod_eq_of_le (by omega) (by omega)]
  omega

/-- One product of the kernel: over 1024 positions of words at most 127 in magnitude, from a zero accumulator, it is the
    sum of the sign-extended products. -/
theorem product_at (L : IVec S256x1024 8) (R : IVec S2304x1024 8) (p : Fin 256) (o : Fin 2304)
    (hL : ∀ k : Fin 1024, (L (ix2 p k)).toInt.natAbs ≤ 127) :
    matmulI8 IntMxuNumerics.v7x dot_S256x1024_S2304x1024_S256x2304_1_1_0_0_n_n L R (constantI S256x2304 32 0#32) (ix2 p o)
      = ∑ k : Fin 1024, BitVec.signExtend 32 (L (ix2 p k)) * BitVec.signExtend 32 (R (ix2 o k)) := by
  have hl : ∀ k : Fin 1024, dot_S256x1024_S2304x1024_S256x2304_1_1_0_0_n_n.lhsIdx (ix2 p o)
      (dot_S256x1024_S2304x1024_S256x2304_1_1_0_0_n_n.contrIdx₁ (a := 1) rfl (K := 1024) rfl k) = ix2 p k := fun k => by
    rw [eq_ix2 (dot_S256x1024_S2304x1024_S256x2304_1_1_0_0_n_n.lhsIdx _ _)]; rfl
  have hr : ∀ k : Fin 1024, dot_S256x1024_S2304x1024_S256x2304_1_1_0_0_n_n.rhsIdx (ix2 p o)
      (dot_S256x1024_S2304x1024_S256x2304_1_1_0_0_n_n.contrIdx₁ (a := 1) rfl (K := 1024) rfl k) = ix2 o k := fun k => by
    rw [eq_ix2 (dot_S256x1024_S2304x1024_S256x2304_1_1_0_0_n_n.rhsIdx _ _)]; rfl
  rw [matmulI8_exact]
  · unfold dotI8
    rw [DotDims.sum_contr₁ _ (a := 1) rfl (K := 1024) rfl]
    simp only [hl, hr]
    change ((∑ k : Fin 1024, _ : ℤ) : BitVec 32) = _
    push_cast
    rfl
  · rfl
  · unfold absDotI8
    rw [DotDims.sum_contr₁ _ (a := 1) rfl (K := 1024) rfl]
    simp only [hl, hr, Int.natAbs_mul]
    refine (Finset.sum_le_card_nsmul Finset.univ _ (127 * 128) fun k _ => Nat.mul_le_mul (hL k) (natAbs_toInt_i8_le _)).trans ?_
    rw [Finset.card_univ, Fintype.card_fin]
    decide

end Cert.KernelIdeal.RefValue

end
-- ==== Proof.KernelAt.lean ====
/-
  The kernel's vector computations read at an index, at the ideal numbers. The row maximum, the scale and the codes are
  restated over the arrays they read as variables, so that no statement holds more than one layer of the computation.
-/
module

public import proofs.«01_k».proof.Proof.Quant

@[expose] public section

set_option maxRecDepth 16384

noncomputable section

namespace Cert.KernelIdeal.RefValue

open Cert.KernelIdeal Cert.KernelIdeal.Gen
open Idealize.ShloMosaic Idealize.ShloMosaic.TcCoe Idealize.SL.Sem

/-- The greatest magnitude of each row of `Z`. -/
def rowMaxOf (Z : FVec Ideal S256x7168 .f32) : FVec Ideal S256x1 .f32 :=
  shapeCast S256x1 (multiReduction .maximumf [1] S256 (absf Z) 0xFF800000#32 reduces_S256x7168_S256 (.inl rfl) rfl) shapeCasts_S256_S256x1

/-- The scale of each row from its greatest magnitude. -/
def scalesOf (M : FVec Ideal S256x1 .f32) : FVec Ideal S256x1 .f32 :=
  select (cmpf .ogt M (broadcast S256x1 (Scalar.ofBits .f32 0x00000000#32))) (divf M (broadcast S256x1 (Scalar.ofBits .f32 0x42FE0000#32)))
    (broadcast S256x1 (Scalar.ofBits .f32 0x3F800000#32))

/-- The codes of `Z` at the row scales `T`. -/
def codesOf (Z : FVec Ideal S256x7168 .f32) (T : FVec Ideal S256x1 .f32) : IVec S256x7168 8 :=
  fptosi 8 (minimumf (broadcast S256x7168 (Scalar.ofBits .f32 0x42FE0000#32)) (maximumf (broadcast S256x7168 (Scalar.ofBits .f32 0xC2FE0000#32))
    (roundeven (divf Z (broadcastTo S256x7168 T broadcasts_S256x1_S256x7168)))))

/-- The kernel's scales are these pieces. -/
theorem scales_def (x : Vec Ideal S256x7168 .bf16) (s : Vec Ideal S1x7168 .f32) :
    k0_pay3 x s = scalesOf (rowMaxOf (k0_pay2 x s)) := rfl

/-- The kernel's codes are these pieces. -/
theorem codes_def (x : Vec Ideal S256x7168 .bf16) (s : Vec Ideal S1x7168 .f32) :
    k0_pay4 x s = codesOf (k0_pay2 x s) (k0_pay3 x s) := rfl

/-- A smoothed activation. -/
theorem smoothed_at (x : Vec Ideal S256x7168 .bf16) (s : Vec Ideal S1x7168 .f32) (p : Fin 256) (k : Fin 7168) :
    k0_pay2 x s (ix2 p k) = Ideal.div (x (ix2 p k)) (s (ix2 0 k)) := by
  pointwise [k0_pay2]

/-- A row's greatest magnitude. -/
theorem rowMaxOf_at (Z : FVec Ideal S256x7168 .f32) (p : Fin 256) (k : Fin 1) :
    rowMaxOf Z (ix2 p k) = Finset.univ.fold max (Ideal.ofBits .f32 0xFF800000#32) fun k : Fin 7168 => FloatOps.absf (F := Ideal) (φ := .f32) (Z (ix2 p k)) := by
  pointwise [rowMaxOf]

/-- A row's scale. -/
theorem scalesOf_at (M : FVec Ideal S256x1 .f32) (p : Fin 256) (k : Fin 1) :
    scalesOf M (ix2 p k) = if 0 < M (ix2 p k) then Ideal.div (M (ix2 p k)) (Ideal.ofBits .f32 0x42FE0000#32) else 1 := by
  pointwise [scalesOf]

/-- A code. -/
theorem codesOf_at (Z : FVec Ideal S256x7168 .f32) (T : FVec Ideal S256x1 .f32) (p : Fin 256) (k : Fin 7168) :
    codesOf Z T (ix2 p k) = Ideal.fptosi 8 (min (Ideal.ofBits .f32 0x42FE0000#32) (max (Ideal.ofBits .f32 0xC2FE0000#32)
      (Ideal.liftRound Ideal.roundHalfEven (Ideal.div (Z (ix2 p k)) (T (ix2 p 0)))))) := by
  pointwise [codesOf]
  rfl

/-- A code is at most 127 in magnitude. -/
theorem codes_natAbs (x : Vec Ideal S256x7168 .bf16) (s : Vec Ideal S1x7168 .f32) (p : Fin 256) (k : Fin 7168) :
    (k0_pay4 x s (ix2 p k)).toInt.natAbs ≤ 127 := by
  rw [codes_def, codesOf_at, hi_eq, lo_eq]
  exact fptosi_natAbs _

/-- The scaled sum, at an index. -/
theorem scaled_at (T : FVec Ideal S256x1 .f32) (A : Vec Ideal S256x2304 .i32) (p : Fin 256) (o : Fin 2304) :
    k0_pay13 T A (ix2 p o) = FloatOps.sitofp (F := Ideal) .f32 (A (ix2 p o)) * T (ix2 p 0) := by
  pointwise [k0_pay13]

/-- The result of a scaled sum, at an index. -/
theorem output_at (B : FVec Ideal S256x2304 .f32) (V : Vec Ideal S1x2304 .f32) (R : Vec Ideal S256x2304 .bf16) (p : Fin 256) (o : Fin 2304) :
    k0_pay1 B V R (ix2 p o) = B (ix2 p o) * V (ix2 0 o) + R (ix2 p o) := by
  pointwise [k0_pay1]

/-- The first product, at an index. -/
theorem first_at (L : Vec Ideal S256x1024 .i8) (R : Vec Ideal S2304x1024 .i8) (p : Fin 256) (o : Fin 2304)
    (hL : ∀ k : Fin 1024, (L (ix2 p k)).toInt.natAbs ≤ 127) :
    k0_pay5 (F := Ideal) L R (ix2 p o) = ∑ k : Fin 1024, BitVec.signExtend 32 (L (ix2 p k)) * BitVec.signExtend 32 (R (ix2 o k)) := by
  rw [← product_at L R p o hL]
  unfold k0_pay5
  simp only [shapeCast_self]

/-- A further product added to the running sum, at an index. -/
theorem next_at (L : Vec Ideal S256x1024 .i8) (R : Vec Ideal S2304x1024 .i8) (A : Vec Ideal S256x2304 .i32) (p : Fin 256) (o : Fin 2304)
    (hL : ∀ k : Fin 1024, (L (ix2 p k)).toInt.natAbs ≤ 127) :
    k0_pay6 (F := Ideal) L R A (ix2 p o)
      = A (ix2 p o) + ∑ k : Fin 1024, BitVec.signExtend 32 (L (ix2 p k)) * BitVec.signExtend 32 (R (ix2 o k)) := by
  rw [← product_at L R p o hL]
  unfold k0_pay6
  simp only [shapeCast_self]
  rfl

end Cert.KernelIdeal.RefValue

end
-- ==== Proof.Reference.lean ====
/-
  The reference's three results as functions of its arguments, in the pieces its text names: the smoothed activations, the
  row scales, the int8 codes, the int32 products summed over the contraction, and the scaled sum plus residual. The
  generated run of the reference ends at exactly these terms.
-/
module

public import proofs.«01_k».proof.Proof.Gen.ReferenceIdeal.Run

@[expose] public section

set_option maxRecDepth 16384

noncomputable section

namespace Cert.ReferenceIdeal.RefValue

open Cert.ReferenceIdeal Cert.ReferenceIdeal.Gen
open Idealize.ShloMosaic Idealize.ShloMosaic.TcCoe Idealize.SL.Sem

variable {F : FTy → Type} [FloatOps F]

/-- The activations divided by the smoothing vector. -/
def smoothed (X : FVec F S3x3072x7168 .bf16) (S : FVec F S7168 .f32) : FVec F S3x3072x7168 .f32 :=
  Host.divf (extf .f32 X bitsLt_bf16_f32) (broadcastInDim S3x3072x7168 ![0, 1, 2] bcast_S1x1x7168_S3x3072x7168_0_1_2 (broadcastInDim S1x1x7168 ![2] bcast_S7168_S1x1x7168_2 S))

/-- The greatest magnitude of each row of `Z`. -/
def rowMaxOf (Z : FVec F S3x3072x7168 .f32) : FVec F S3x3072x1 .f32 :=
  broadcastInDim S3x3072x1 ![0, 1] bcast_S3x3072_S3x3072x1_0_1 (Host.reduce FloatOps.maximumf (Host.absf Z) (constant S_ .f32 0xFF800000#32) reducesTo_S3x3072x7168_S3x3072_d2 h_S_)

/-- The scale of each row from its greatest magnitude `M`: `M` over 127, or 1 for a row of zeros. -/
def scalesOf (M : FVec F S3x3072x1 .f32) : FVec F S3x3072x1 .f32 :=
  select (cmpf .ogt M (broadcastInDim S3x3072x1 ![] bcast_S_S3x3072x1 (constant S_ .f32 0x00000000#32))) (Host.divf M (broadcastInDim S3x3072x1 ![] bcast_S_S3x3072x1 (constant S_ .f32 0x42FE0000#32))) (broadcastInDim S3x3072x1 ![] bcast_S_S3x3072x1 (constant S_ .f32 0x3F800000#32))

/-- The codes of `Z` at the row scales `T`: each element over its row's scale, rounded, clipped to ±127 and converted. -/
def codesOf (Z : FVec F S3x3072x7168 .f32) (T : FVec F S3x3072x1 .f32) : IVec S3x3072x7168 8 :=
  trunci 8 (fptosi 32 (minimumf (broadcastInDim S3x3072x7168 ![] bcast_S_S3x3072x7168 (constant S_ .f32 0x42FE0000#32)) (maximumf (broadcastInDim S3x3072x7168 ![] bcast_S_S3x3072x7168 (constant S_ .f32 0xC2FE0000#32)) (Host.roundeven (Host.divf Z (broadcastInDim S3x3072x7168 ![0, 1, 2] bcast_S3x3072x1_S3x3072x7168_0_1_2 T)))))) natLt_8_32

/-- The row scales of the smoothed activations. -/
def scales (X : FVec F S3x3072x7168 .bf16) (S : FVec F S7168 .f32) : FVec F S3x3072x1 .f32 := scalesOf (rowMaxOf (smoothed X S))

/-- The codes of the smoothed activations. -/
def codes (X : FVec F S3x3072x7168 .bf16) (S : FVec F S7168 .f32) : IVec S3x3072x7168 8 := codesOf (smoothed X S) (scales X S)

/-- The int32 sum of the products of the codes with the weight codes. -/
def sums (C : IVec S3x3072x7168 8) (W : IVec S2304x7168 8) : IVec S3x3072x2304 32 :=
  Host.reduce IntOp.addi (muli (broadcastInDim S3x3072x2304x7168 ![0, 1, 2, 3] bcast_S3x3072x1x7168_S3x3072x2304x7168_0_1_2_3 (broadcastInDim S3x3072x1x7168 ![0, 1, 3] bcast_S3x3072x7168_S3x3072x1x7168_0_1_3 (extsi 32 C natLt_8_32))) (broadcastInDim S3x3072x2304x7168 ![0, 1, 2, 3] bcast_S1x1x2304x7168_S3x3072x2304x7168_0_1_2_3 (broadcastInDim S1x1x2304x7168 ![2, 3] bcast_S2304x7168_S1x1x2304x7168_2_3 (extsi 32 W natLt_8_32)))) (constantI S_ 32 0#32) reducesTo_S3x3072x2304x7168_S3x3072x2304_d3 h_S_

/-- The sums by the row scales, by the weight scales, plus the residual. -/
def outputs (A : IVec S3x3072x2304 32) (T : FVec F S3x3072x1 .f32) (V : FVec F S2304 .f32) (R : FVec F S3x3072x2304 .bf16) : FVec F S3x3072x2304 .bf16 :=
  truncf .bf16 (addf (mulf (mulf (sitofp .f32 A) (broadcastInDim S3x3072x2304 ![0, 1, 2] bcast_S3x3072x1_S3x3072x2304_0_1_2 T)) (broadcastInDim S3x3072x2304 ![0, 1, 2] bcast_S1x1x2304_S3x3072x2304_0_1_2 (broadcastInDim S1x1x2304 ![2] bcast_S2304_S1x1x2304_2 V))) (extf .f32 R bitsLt_bf16_f32)) bitsLt_bf16_f32

/-- The first result, over tokens. -/
def resY (X : FVec F S3x3072x7168 .bf16) (S : FVec F S7168 .f32) (W : IVec S2304x7168 8) (V : FVec F S2304 .f32) (R : FVec F S3x3072x2304 .bf16) : FVec F S9216x2304 .bf16 :=
  shapeCast _ (outputs (sums (codes X S) W) (scales X S) V R) shapeCasts_S3x3072x2304_S9216x2304

/-- The second result, over tokens. -/
def resC (X : FVec F S3x3072x7168 .bf16) (S : FVec F S7168 .f32) : IVec S9216x7168 8 :=
  shapeCast _ (codes X S) shapeCasts_S3x3072x7168_S9216x7168

/-- The third result, over tokens. -/
def resS (X : FVec F S3x3072x7168 .bf16) (S : FVec F S7168 .f32) : FVec F S9216x1 .f32 :=
  shapeCast _ (scales X S) shapeCasts_S3x3072x1_S9216x1

/-- The reference's run: its result buffers at these terms, its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = resY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v36) = resC (m ((c.tc : Thread nD τ).loc main_arg0)) (m ((c.tc : Thread nD τ).loc main_arg1))
      ∧ r.2.mem ((c.tc : Thread nD τ).loc main_v37) = resS (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run m ρ

end Cert.ReferenceIdeal.RefValue

end
-- ==== Proof.ReferenceAt.lean ====
/-
  Each piece of the reference read at an index of its result, at the ideal numbers. Every lemma takes the arrays its piece
  reads as variables, so that no statement holds more than one layer of the computation.
-/
module

public import proofs.«01_k».proof.Proof.Reference
public import Idealize.ShloMosaic.Lib.Pointwise
public import Mathlib.Data.BitVec

@[expose] public section

set_option maxRecDepth 16384

noncomputable section

namespace Cert.ReferenceIdeal.RefValue

open Cert.ReferenceIdeal Cert.ReferenceIdeal.Gen
open Idealize.ShloMosaic Idealize.ShloMosaic.TcCoe Idealize.SL.Sem

/-- A smoothed activation. -/
theorem smoothed_at (X : FVec Ideal S3x3072x7168 .bf16) (S : FVec Ideal S7168 .f32) (b : Fin 3) (q : Fin 3072) (k : Fin 7168) :
    smoothed X S (ix3 b q k) = Ideal.div (X (ix3 b q k)) (S (ix1 k)) := by
  pointwise [smoothed]

/-- A row's greatest magnitude. -/
theorem rowMaxOf_at (Z : FVec Ideal S3x3072x7168 .f32) (b : Fin 3) (q : Fin 3072) (k : Fin 1) :
    rowMaxOf Z (ix3 b q k) = Finset.univ.fold max (Ideal.ofBits .f32 0xFF800000#32) fun k : Fin 7168 => FloatOps.absf (F := Ideal) (φ := .f32) (Z (ix3 b q k)) := by
  pointwise [rowMaxOf]

/-- A row's scale. -/
theorem scalesOf_at (M : FVec Ideal S3x3072x1 .f32) (b : Fin 3) (q : Fin 3072) (k : Fin 1) :
    scalesOf M (ix3 b q k) = if 0 < M (ix3 b q k) then Ideal.div (M (ix3 b q k)) (Ideal.ofBits .f32 0x42FE0000#32) else 1 := by
  pointwise [scalesOf]

/-- A code. -/
theorem codesOf_at (Z : FVec Ideal S3x3072x7168 .f32) (T : FVec Ideal S3x3072x1 .f32) (b : Fin 3) (q : Fin 3072) (k : Fin 7168) :
    codesOf Z T (ix3 b q k) = BitVec.setWidth 8 (Ideal.fptosi 32 (min (Ideal.ofBits .f32 0x42FE0000#32) (max (Ideal.ofBits .f32 0xC2FE0000#32)
      (Ideal.liftRound Ideal.roundHalfEven (Ideal.div (Z (ix3 b q k)) (T (ix3 b q 0))))))) := by
  pointwise [codesOf]
  rfl

/-- The sum of the products, at a row and an output column: a sum of 32-bit words. -/
theorem sums_at (C : IVec S3x3072x7168 8) (W : IVec S2304x7168 8) (b : Fin 3) (q : Fin 3072) (o : Fin 2304) :
    sums C W (ix3 b q o) = ∑ k : Fin 7168, BitVec.signExtend 32 (C (ix3 b q k)) * BitVec.signExtend 32 (W (ix2 o k)) := by
  pointwise [sums]
  exact (Finset.sum_eq_fold _ _).symm

/-- A scaled sum plus the residual. -/
theorem outputs_at (A : IVec S3x3072x2304 32) (T : FVec Ideal S3x3072x1 .f32) (V : FVec Ideal S2304 .f32) (R : FVec Ideal S3x3072x2304 .bf16)
    (b : Fin 3) (q : Fin 3072) (o : Fin 2304) :
    outputs A T V R (ix3 b q o) = FloatOps.sitofp (F := Ideal) .f32 (A (ix3 b q o)) * T (ix3 b q 0) * V (ix1 o) + R (ix3 b q o) := by
  pointwise [outputs]

/-- The first result at a token. -/
theorem resY_at (X : FVec Ideal S3x3072x7168 .bf16) (S : FVec Ideal S7168 .f32) (W : IVec S2304x7168 8) (V : FVec Ideal S2304 .f32)
    (R : FVec Ideal S3x3072x2304 .bf16) (r : Fin 9216) (o : Fin 2304) :
    resY X S W V R (ix2 r o) = outputs (sums (codes X S) W) (scales X S) V R (ix3 ⟨r / 3072, by omega⟩ ⟨r % 3072, by omega⟩ o) := by
  pointwise [resY]

/-- The second result at a token. -/
theorem resC_at (X : FVec Ideal S3x3072x7168 .bf16) (S : FVec Ideal S7168 .f32) (r : Fin 9216) (k : Fin 7168) :
    resC X S (ix2 r k) = codes X S (ix3 ⟨r / 3072, by omega⟩ ⟨r % 3072, by omega⟩ k) := by
  pointwise [resC]

/-- The third result at a token. -/
theorem resS_at (X : FVec Ideal S3x3072x7168 .bf16) (S : FVec Ideal S7168 .f32) (r : Fin 9216) (k : Fin 1) :
    resS X S (ix2 r k) = scales X S (ix3 ⟨r / 3072, by omega⟩ ⟨r % 3072, by omega⟩ 0) := by
  obtain rfl : k = 0 := Subsingleton.elim _ _
  pointwise [resS]

end Cert.ReferenceIdeal.RefValue

end
-- ==== Proof.Match.lean ====
/-
  A row of the kernel's block against a row of the reference: where the two read the same activations, smoothing vector,
  weights, weight scales and residual, the smoothed row, its scale, its codes, its integer sums and its outputs agree.
-/
module

public import proofs.«01_k».proof.Proof.KernelAt
public import proofs.«01_k».proof.Proof.ReferenceAt

@[expose] public section

set_option maxRecDepth 16384

noncomputable section

namespace Cert.KernelIdeal.RefValue

open Cert.KernelIdeal Cert.KernelIdeal.Gen
open Idealize.ShloMosaic Idealize.ShloMosaic.TcCoe Idealize.SL.Sem
open Cert.ReferenceIdeal.RefValue (smoothed scales codes sums outputs)

variable {x : Vec Ideal S256x7168 .bf16} {s : Vec Ideal S1x7168 .f32}
  {X : FVec Ideal Cert.ReferenceIdeal.S3x3072x7168 .bf16} {S : FVec Ideal Cert.ReferenceIdeal.S7168 .f32}
  {p : Fin 256} {b : Fin 3} {q : Fin 3072}

/-- The smoothed row. -/
theorem smoothed_eq (hx : ∀ k, x (ix2 p k) = X (ix3 b q k)) (hs : ∀ k, s (ix2 0 k) = S (ix1 k)) (k : Fin 7168) :
    k0_pay2 x s (ix2 p k) = smoothed X S (ix3 b q k) := by
  rw [smoothed_at, Cert.ReferenceIdeal.RefValue.smoothed_at, hx, hs]

/-- The row's scale. -/
theorem scales_eq (hx : ∀ k, x (ix2 p k) = X (ix3 b q k)) (hs : ∀ k, s (ix2 0 k) = S (ix1 k)) (k j : Fin 1) :
    k0_pay3 x s (ix2 p k) = scales X S (ix3 b q j) := by
  have hM : rowMaxOf (k0_pay2 x s) (ix2 p k) = Cert.ReferenceIdeal.RefValue.rowMaxOf (smoothed X S) (ix3 b q j) := by
    rw [rowMaxOf_at, Cert.ReferenceIdeal.RefValue.rowMaxOf_at]
    simp only [smoothed_eq hx hs]
  rw [scales_def, scalesOf_at]
  unfold scales
  rw [Cert.ReferenceIdeal.RefValue.scalesOf_at, hM]

/-- The row's codes. -/
theorem codes_eq (hx : ∀ k, x (ix2 p k) = X (ix3 b q k)) (hs : ∀ k, s (ix2 0 k) = S (ix1 k)) (k : Fin 7168) :
    k0_pay4 x s (ix2 p k) = codes X S (ix3 b q k) := by
  rw [codes_def, codesOf_at]
  unfold codes
  rw [Cert.ReferenceIdeal.RefValue.codesOf_at, smoothed_eq hx hs, scales_eq hx hs 0 0, hi_eq, lo_eq, fptosi_trunc]

/-- The seven products in the order the kernel adds them: cut `j` of the codes is `L j`, of the weights `R j`. -/
def total (L : Fin 7 → Vec Ideal S256x1024 .i8) (R : Fin 7 → Vec Ideal S2304x1024 .i8) : Vec Ideal S256x2304 .i32 :=
  k0_pay12 (L 6) (R 6) (k0_pay11 (L 5) (R 5) (k0_pay10 (k0_pay9 (L 4)) (R 4) (k0_pay8 (L 3) (R 3) (k0_pay7 (L 2) (R 2) (k0_pay6 (L 1) (R 1) (k0_pay5 (L 0) (R 0)))))))

/-- The seven additions are one and the same function. -/
theorem total_def (L : Fin 7 → Vec Ideal S256x1024 .i8) (R : Fin 7 → Vec Ideal S2304x1024 .i8) :
    total L R = k0_pay6 (L 6) (R 6) (k0_pay6 (L 5) (R 5) (k0_pay6 (L 4) (R 4) (k0_pay6 (L 3) (R 3) (k0_pay6 (L 2) (R 2) (k0_pay6 (L 1) (R 1) (k0_pay5 (L 0) (R 0))))))) := rfl

/-- The sum of the seven products is the reference's sum over the whole contraction. -/
theorem total_eq {L : Fin 7 → Vec Ideal S256x1024 .i8} {R : Fin 7 → Vec Ideal S2304x1024 .i8} {o : Fin 2304}
    {C : IVec Cert.ReferenceIdeal.S3x3072x7168 8} {W : IVec Cert.ReferenceIdeal.S2304x7168 8}
    (hC : ∀ k : Fin 7168, (C (ix3 b q k)).toInt.natAbs ≤ 127)
    (hL : ∀ (j : Fin 7) (t : Fin 1024), L j (ix2 p t) = C (ix3 b q ⟨j.val * 1024 + t.val, by omega⟩))
    (hR : ∀ (j : Fin 7) (t : Fin 1024), R j (ix2 o t) = W (ix2 o ⟨j.val * 1024 + t.val, by omega⟩)) :
    total L R (ix2 p o) = sums C W (ix3 b q o) := by
  have hb : ∀ (j : Fin 7) (t : Fin 1024), (L j (ix2 p t)).toInt.natAbs ≤ 127 := fun j t => by rw [hL]; exact hC _
  rw [total_def, next_at _ _ _ _ _ (hb 6), next_at _ _ _ _ _ (hb 5), next_at _ _ _ _ _ (hb 4), next_at _ _ _ _ _ (hb 3),
    next_at _ _ _ _ _ (hb 2), next_at _ _ _ _ _ (hb 1), first_at _ _ _ _ (hb 0), Cert.ReferenceIdeal.RefValue.sums_at,
    Fin.sum_univ_tiles 7 1024 rfl, Fin.sum_univ_seven]
  simp only [hL, hR]

/-- The row's outputs. -/
theorem outputs_eq {L : Fin 7 → Vec Ideal S256x1024 .i8} {R : Fin 7 → Vec Ideal S2304x1024 .i8} {o : Fin 2304}
    {V' : Vec Ideal S1x2304 .f32} {D' : Vec Ideal S256x2304 .bf16}
    {W : IVec Cert.ReferenceIdeal.S2304x7168 8} {V : FVec Ideal Cert.ReferenceIdeal.S2304 .f32} {D : FVec Ideal Cert.ReferenceIdeal.S3x3072x2304 .bf16}
    (hx : ∀ k, x (ix2 p k) = X (ix3 b q k)) (hs : ∀ k, s (ix2 0 k) = S (ix1 k))
    (hL : ∀ (j : Fin 7) (t : Fin 1024), L j (ix2 p t) = k0_pay4 x s (ix2 p ⟨j.val * 1024 + t.val, by omega⟩))
    (hR : ∀ (j : Fin 7) (t : Fin 1024), R j (ix2 o t) = W (ix2 o ⟨j.val * 1024 + t.val, by omega⟩))
    (hV : V' (ix2 0 o) = V (ix1 o)) (hD : D' (ix2 p o) = D (ix3 b q o)) :
    k0_pay1 (k0_pay13 (k0_pay3 x s) (total L R)) V' D' (ix2 p o) = outputs (sums (codes X S) W) (scales X S) V D (ix3 b q o) := by
  rw [output_at, scaled_at, Cert.ReferenceIdeal.RefValue.outputs_at, scales_eq hx hs 0 0, hV, hD,
    total_eq (C := codes X S) (W := W) (fun k => by rw [← codes_eq hx hs]; exact codes_natAbs _ _ _ _)
      (fun j t => by rw [hL, codes_eq hx hs]) hR]

end Cert.KernelIdeal.RefValue

end
-- ==== Proof.Blocks.lean ====
/-
  What the kernel's blocks hold: at grid point `t`, row `p` of a block over the tokens is token `256 t + p`, so row
  `(256 t + p) % 3072` of batch `(256 t + p) / 3072` of the argument; the smoothing vector, the weights and the weight
  scales are there whole at every point.
-/
module

public import proofs.«01_k».proof.Proof.Match
public import Idealize.ShloMosaic.Lib.Pipeline.ValueKit

@[expose] public section

set_option maxRecDepth 16384

noncomputable section

namespace Cert.KernelIdeal.RefValue

open Cert.KernelIdeal Cert.KernelIdeal.Gen
open Idealize.ShloMosaic Idealize.ShloMosaic.TcCoe Idealize.SL.Sem

variable (m : (ℓ : Loc nD τ sig) → Buf (Elt Ideal) ℓ) (c : Dev nD)

/-- Where each window's block lies, at every grid point. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The token that row `p` of point `t`'s blocks is. -/
def token (t : Fin cfg0.N) (p : Fin 256) : Fin 9216 :=
  ⟨t.val * 256 + p.val, by have ht : t.val < 36 := t.isLt; omega⟩

/-- A row of the activations' block. -/
theorem x_at (t : Fin cfg0.N) (p : Fin 256) (k : Fin 7168) :
    (iblk m c 0 t : Vec Ideal S256x7168 .bf16) (ix2 p k)
      = (m ((c : Thread nD τ).loc main_arg0) : Vec Ideal S3x3072x7168 .bf16)
          (ix3 ⟨(token t p).val / 3072, by omega⟩ ⟨(token t p).val % 3072, by omega⟩ k) := by
  blk_simp [iblk, idx t]
  entry_read
  pointwise
  blk_ext [idx t, token]

/-- The smoothing vector's block. -/
theorem s_at (t : Fin cfg0.N) (k : Fin 7168) :
    (iblk m c 1 t : Vec Ideal S1x7168 .f32) (ix2 0 k) = (m ((c : Thread nD τ).loc main_arg1) : Vec Ideal S7168 .f32) (ix1 k) := by
  blk_simp [iblk, idx t]
  entry_read
  pointwise
  blk_ext [idx t]

/-- The weights' block. -/
theorem w_at (t : Fin cfg0.N) (o : Fin 2304) (k : Fin 7168) :
    (iblk m c 2 t : Vec Ideal S2304x7168 .i8) (ix2 o k) = (m ((c : Thread nD τ).loc main_arg2) : Vec Ideal S2304x7168 .i8) (ix2 o k) := by
  blk_ext [iblk, V, idx t]

/-- The weight scales' block. -/
theorem v_at (t : Fin cfg0.N) (o : Fin 2304) :
    (iblk m c 3 t : Vec Ideal S1x2304 .f32) (ix2 0 o) = (m ((c : Thread nD τ).loc main_arg3) : Vec Ideal S2304 .f32) (ix1 o) := by
  blk_simp [iblk, idx t]
  entry_read
  pointwise
  blk_ext [idx t]

/-- A row of the residual's block. -/
theorem r_at (t : Fin cfg0.N) (p : Fin 256) (o : Fin 2304) :
    (iblk m c 4 t : Vec Ideal S256x2304 .bf16) (ix2 p o)
      = (m ((c : Thread nD τ).loc main_arg4) : Vec Ideal S3x3072x2304 .bf16)
          (ix3 ⟨(token t p).val / 3072, by omega⟩ ⟨(token t p).val % 3072, by omega⟩ o) := by
  blk_simp [iblk, idx t]
  entry_read
  pointwise
  blk_ext [idx t, token]

end Cert.KernelIdeal.RefValue

end
-- ==== Proof.Final.lean ====
/-
  The kernel's three result arrays after its run are the reference's three results over the same arguments.
-/
module

public import proofs.«01_k».proof.Proof.Blocks
public import Idealize.ShloMosaic.Lib.Pipeline.ReadBack

@[expose] public section

set_option maxRecDepth 16384

noncomputable section

namespace Cert.KernelIdeal.RefValue

open Cert.KernelIdeal Cert.KernelIdeal.Gen Cert.KernelIdeal.Value
open Idealize.ShloMosaic Idealize.ShloMosaic.TcCoe Idealize.SL.Sem
open Cert.ReferenceIdeal.RefValue (resY resC resS resY_at resC_at resS_at)

/-- Cut `j` of a block of codes: its 1024 columns from `1024 j`. -/
def codesCut (C : Vec Ideal S256x7168 .i8) (j : Fin 7) : Vec Ideal S256x1024 .i8 :=
  View.ld (S := S256x7168) C (Rect.unit ![0, j.val * 1024] ![256, 1024] (by
    intro a; match a with | ⟨0, _⟩ => simp | ⟨1, _⟩ => simp; omega))

/-- Cut `j` of the weights: their 1024 columns from `1024 j`. -/
def weightsCut (W : Vec Ideal S2304x7168 .i8) (j : Fin 7) : Vec Ideal S2304x1024 .i8 :=
  View.ld (S := S2304x7168) W (Rect.unit ![0, j.val * 1024] ![2304, 1024] (by
    intro a; match a with | ⟨0, _⟩ => simp | ⟨1, _⟩ => simp; omega))

/-- A cut of the codes at an index. -/
theorem codesCut_at (C : Vec Ideal S256x7168 .i8) (j : Fin 7) (p : Fin 256) (u : Fin 1024) :
    codesCut C j (ix2 p u) = C (ix2 p ⟨j.val * 1024 + u.val, by omega⟩) := by
  pointwise [codesCut]

/-- A cut of the weights at an index. -/
theorem weightsCut_at (W : Vec Ideal S2304x7168 .i8) (j : Fin 7) (o : Fin 2304) (u : Fin 1024) :
    weightsCut W j (ix2 o u) = W (ix2 o ⟨j.val * 1024 + u.val, by omega⟩) := by
  pointwise [weightsCut]

variable (m : (ℓ : Loc nD τ sig) → Buf (Elt Ideal) ℓ) (c : Dev nD)

/-- The array index of an index of the first result's block. -/
theorem emb5 (t : Fin cfg0.N) (p : Fin 256) (o : Fin 2304) :
    (((cfg0.win 5).blk t).view.emb (ix2 p o) : S9216x2304.Idx) = ix2 (token t p) o := by
  blk_ext [idx t, token]

/-- The array index of an index of the second result's block. -/
theorem emb6 (t : Fin cfg0.N) (p : Fin 256) (k : Fin 7168) :
    (((cfg0.win 6).blk t).view.emb (ix2 p k) : S9216x7168.Idx) = ix2 (token t p) k := by
  blk_ext [idx t, token]

/-- The array index of an index of the third result's block. -/
theorem emb7 (t : Fin cfg0.N) (p : Fin 256) (k : Fin 1) :
    (((cfg0.win 7).blk t).view.emb (ix2 p k) : S9216x1.Idx) = ix2 (token t p) k := by
  blk_ext [idx t, token]

/-- A scale the kernel stores is the reference's. -/
theorem point7 (t : Fin cfg0.N) (p : Fin 256) (k : Fin 1) :
    k0_pay3 (iblk m c 0 t) (iblk m c 1 t) (ix2 p k)
      = resS (F := Ideal) (m ((c : Thread nD τ).loc main_arg0)) (m ((c : Thread nD τ).loc main_arg1)) (ix2 (token t p) k) := by
  refine Eq.trans ?_ (resS_at _ _ _ _).symm
  exact scales_eq (x_at m c t p) (s_at m c t) k 0

/-- A code the kernel stores is the reference's. -/
theorem point6 (t : Fin cfg0.N) (p : Fin 256) (k : Fin 7168) :
    k0_pay4 (iblk m c 0 t) (iblk m c 1 t) (ix2 p k)
      = resC (F := Ideal) (m ((c : Thread nD τ).loc main_arg0)) (m ((c : Thread nD τ).loc main_arg1)) (ix2 (token t p) k) := by
  refine Eq.trans ?_ (resC_at _ _ _ _).symm
  exact codes_eq (x_at m c t p) (s_at m c t) k

/-- An output the kernel stores is the reference's. -/
theorem point5 (t : Fin cfg0.N) (p : Fin 256) (o : Fin 2304) :
    k0_pay1 (k0_pay13 (k0_pay3 (iblk m c 0 t) (iblk m c 1 t))
        (total (codesCut (k0_pay4 (iblk m c 0 t) (iblk m c 1 t))) (weightsCut (iblk m c 2 t)))) (iblk m c 3 t) (iblk m c 4 t) (ix2 p o)
      = resY (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (ix2 (token t p) o) := by
  refine Eq.trans ?_ (resY_at _ _ _ _ _ _ _).symm
  exact outputs_eq (x_at m c t p) (s_at m c t) (fun j u => codesCut_at _ j p u)
    (fun j u => (weightsCut_at _ j o u).trans (w_at m c t o _)) (v_at m c t o) (r_at m c t p o)

/-- What the body leaves in the third result's block. -/
theorem left7 (t : Fin cfg0.N) : (dats m 0 c).after 7 t = k0_pay3 (iblk m c 0 t) (iblk m c 1 t) := by
  rw [after0_7]
  unfold outsAt0
  dsimp only
  frame_out

/-- What the body leaves in the second result's block. -/
theorem left6 (t : Fin cfg0.N) : (dats m 0 c).after 6 t = k0_pay4 (iblk m c 0 t) (iblk m c 1 t) := by
  rw [after0_6]
  unfold outsAt0
  dsimp only
  frame_out

/-- What the body leaves in the first result's block: the seven products are of cuts of the codes and of the weights. -/
theorem left5 (t : Fin cfg0.N) : (dats m 0 c).after 5 t
      = k0_pay1 (k0_pay13 (k0_pay3 (iblk m c 0 t) (iblk m c 1 t))
          (total (codesCut (k0_pay4 (iblk m c 0 t) (iblk m c 1 t))) (weightsCut (iblk m c 2 t)))) (iblk m c 3 t) (iblk m c 4 t) := by
  rw [after0_5]
  unfold outsAt0
  dsimp only
  frame_out
  have hz : ∀ a : Fin S256x7168.rank, (![0, 0] : Fin S256x7168.rank → ℕ) a = 0 := by decide
  generalize k0_pay4 (iblk m c 0 t) (iblk m c 1 t) = C
  generalize k0_pay3 (iblk m c 0 t) (iblk m c 1 t) = T
  generalize (iblk m c 2 t) = W
  simp only [View.readCov_fill (h := hz)]
  rfl

/-- The third result: the scales. -/
theorem final7 : (dats m 0 c).arrAt 7 cfg0.N
    = resS (F := Ideal) (m ((c : Thread nD τ).loc main_arg0)) (m ((c : Thread nD τ).loc main_arg1)) := by
  refine (dats m 0 c).arrAt_eq_of_covers 7 _ (by decide +kernel) fun t _ y => ?_
  blk_simp
  rw [left7]
  obtain ⟨p, k, rfl⟩ : ∃ (p : Fin 256) (k : Fin 1), y = ix2 p k := ⟨y 0, y 1, eq_ix2 y⟩
  rw [emb7]
  exact point7 m c t p k

/-- The second result: the codes. -/
theorem final6 : (dats m 0 c).arrAt 6 cfg0.N
    = resC (F := Ideal) (m ((c : Thread nD τ).loc main_arg0)) (m ((c : Thread nD τ).loc main_arg1)) := by
  refine (dats m 0 c).arrAt_eq_of_covers 6 _ (by decide +kernel) fun t _ y => ?_
  blk_simp
  rw [left6]
  obtain ⟨p, k, rfl⟩ : ∃ (p : Fin 256) (k : Fin 7168), y = ix2 p k := ⟨y 0, y 1, eq_ix2 y⟩
  rw [emb6]
  exact point6 m c t p k

/-- The first result: the outputs. -/
theorem final5 : (dats m 0 c).arrAt 5 cfg0.N
    = resY (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [left5]
  obtain ⟨p, o, rfl⟩ : ∃ (p : Fin 256) (o : Fin 2304), y = ix2 p o := ⟨y 0, y 1, eq_ix2 y⟩
  rw [emb5]
  exact point5 m c t p o

end Cert.KernelIdeal.RefValue

end
-- ==== Proof.lean ====
/-
  The five claims: the frames of the kernel, of its idealization and of the reference's idealization, that idealizing the
  kernel changed no operation, and that the two idealized programs leave the same three results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Final
public import Idealize.ShloMosaic.Lib.Quiescent
public import Idealize.ShloMosaic.Adequacy
public import Idealize.ShloMosaic.Init

@[expose] public section

noncomputable section

namespace Cert.Proof

open Idealize.ShloMosaic Idealize.SL.Sem
open Cert.KernelIdeal.RefValue (final5 final6 final7)
open Cert.ReferenceIdeal.RefValue (resY resC resS)

/-- The reference keeps its arguments and declares no semaphore. -/
theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.RefValue.run (F := Ideal) m ρ)

/-- The kernel's three result arrays and the reference's are the same functions of arguments that agree. -/
theorem algebraic : Cert.algebraic_KernelIdeal_ReferenceIdeal := by
  intro m ρ m' ρ' _ hagree
  refine ⟨fun c => resY (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => resC (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => resS (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    ?_, ?_⟩
  · exact (θ_run Cert.KernelIdeal.defs _ _).mono
      (fun _ h c => ⟨(h c).1.trans (final5 m c), (h c).2.1.trans (final6 m c), (h c).2.2.1.trans (final7 m c), (h c).2.2.2⟩)
      (Cert.KernelIdeal.Value.run_blocks m ρ)
  · refine (θ_run Cert.ReferenceIdeal.defs _ _).mono (fun _ h c => ⟨(h c).1.trans ?_, (h c).2.1.trans ?_, (h c).2.2.1.trans ?_, (h c).2.2.2⟩)
      (Cert.ReferenceIdeal.RefValue.run (F := Ideal) m' ρ')
    all_goals
      obtain ⟨h0, h1, h2, h3, h4⟩ := hagree c
      simp only [h0, h1, h2, h3, h4]

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_ri, trivial, algebraic⟩

end Cert.Proof

end
